-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x100x16 : Shape := ⟨3, ![16384, 100, 16]⟩
abbrev S_ : Shape := ⟨0, ![]⟩

class Facts : Prop where
  bcast_S_S16384x100x16 : S_.BroadcastsInDim S16384x100x16 (![] : Fin 0 → Fin S16384x100x16.rank)

variable [Facts]

def fn {F : FTy → Type} [FloatOps F] (main_arg0 : FVec F S16384x100x16 .f32) : IVec S16384x100x16 1 :=
  let main_v0 : FVec F S16384x100x16 .f32 := Host.absf main_arg0
  let main_cst : FVec F S_ .f32 := constant S_ .f32 0x7F800000#32
  let main_v1 : FVec F S16384x100x16 .f32 := broadcastInDim S16384x100x16 ![] bcast_S_S16384x100x16 main_cst
  let main_v2 : IVec S16384x100x16 1 := cmpf .olt main_v0 main_v1
  main_v2
-- ==== Kernel.lean ====
abbrev S16384x100x16 : Shape := ⟨3, ![16384, 100, 16]⟩
abbrev S16384 : Shape := ⟨1, ![16384]⟩
abbrev S128x100x16 : Shape := ⟨3, ![128, 100, 16]⟩
abbrev S128 : Shape := ⟨1, ![128]⟩
abbrev S128x100 : Shape := ⟨2, ![128, 100]⟩
abbrev S128x100x1 : Shape := ⟨3, ![128, 100, 1]⟩
abbrev S128x16 : Shape := ⟨2, ![128, 16]⟩

abbrev nBuf : Space → Nat
  | .hbm => 2
  | .vmem => 4
  | .smem => 0
  | _ => 0

abbrev bufTy : (tb : Table) → Fin (tcTables nBuf tb) → BufTy
  | .hbm, ⟨0, _⟩ => ⟨S16384x100x16, .f32⟩
  | .hbm, ⟨1, _⟩ => ⟨S16384, .f32⟩
  | .local _ .vmem, ⟨0, _⟩ => ⟨S128x100x16, .f32⟩
  | .local _ .vmem, ⟨1, _⟩ => ⟨S128x100x16, .f32⟩
  | .local _ .vmem, ⟨2, _⟩ => ⟨S128, .f32⟩
  | .local _ .vmem, ⟨3, _⟩ => ⟨S128, .f32⟩
  | _, _ => ⟨S16384x100x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x100x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x100x16 : Shape := ⟨3, ![16384, 100, 16]⟩
abbrev S4950 : Shape := ⟨1, ![4950]⟩
abbrev S_ : Shape := ⟨0, ![]⟩
abbrev S4950x1 : Shape := ⟨2, ![4950, 1]⟩
abbrev S1 : Shape := ⟨1, ![1]⟩
abbrev S1x1 : Shape := ⟨2, ![1, 1]⟩
abbrev S16384x4950x16 : Shape := ⟨3, ![16384, 4950, 16]⟩
abbrev S16384x4950 : Shape := ⟨2, ![16384, 4950]⟩
abbrev S16384x100 : Shape := ⟨2, ![16384, 100]⟩
abbrev S16384 : Shape := ⟨1, ![16384]⟩

abbrev nBuf : Space → Nat
  | .hbm => 117
  | .vmem => 0
  | .smem => 0
  | _ => 0

abbrev bufTy : (tb : Table) → Fin (tcTables nBuf tb) → BufTy
  | .hbm, ⟨0, _⟩ => ⟨S16384x100x16, .f32⟩
  | .hbm, ⟨1, _⟩ => ⟨S4950, .i32⟩
  | .hbm, ⟨2, _⟩ => ⟨S4950, .i32⟩
  | .hbm, ⟨3, _⟩ => ⟨S_, .i32⟩
  | .hbm, ⟨4, _⟩ => ⟨S4950, .i32⟩
  | .hbm, ⟨5, _⟩ => ⟨S4950, .i1⟩
  | .hbm, ⟨6, _⟩ => ⟨S_, .i32⟩
  | .hbm, ⟨7, _⟩ => ⟨S4950, .i32⟩
  | .hbm, ⟨8, _⟩ => ⟨S4950, .i32⟩
  | .hbm, ⟨9, _⟩ => ⟨S4950, .i32⟩
  | .hbm, ⟨10, _⟩ => ⟨S4950x1, .i32⟩
  | .hbm, ⟨11, _⟩ => ⟨S1, .i32⟩
  | .hbm, ⟨12, _⟩ => ⟨S_, .i32⟩
  | .hbm, ⟨13, _⟩ => ⟨S4950x1, .i32⟩
  | .hbm, ⟨14, _⟩ => ⟨S4950x1, .i1⟩
  | .hbm, ⟨15, _⟩ => ⟨S1x1, .i32⟩
  | .hbm, ⟨16, _⟩ => ⟨S4950x1, .i32⟩
  | .hbm, ⟨17, _⟩ => ⟨S4950x1, .i1⟩
  | .hbm, ⟨18, _⟩ => ⟨S4950x1, .i1⟩
  | .hbm, ⟨19, _⟩ => ⟨S_, .i1⟩
  | .hbm, ⟨20, _⟩ => ⟨S4950, .i1⟩
  | .hbm, ⟨21, _⟩ => ⟨S16384x4950x16, .f32⟩
  | .hbm, ⟨22, _⟩ => ⟨S16384x4950x16, .i1⟩
  | .hbm, ⟨23, _⟩ => ⟨S_, .f32⟩
  | .hbm, ⟨24, _⟩ => ⟨S16384x4950x16, .f32⟩
  | .hbm, ⟨25, _⟩ => ⟨S16384x4950x16, .f32⟩
  | .hbm, ⟨26, _⟩ => ⟨S_, .i32⟩
  | .hbm, ⟨27, _⟩ => ⟨S4950, .i32⟩
  | .hbm, ⟨28, _⟩ => ⟨S4950, .i1⟩
  | .hbm, ⟨29, _⟩ => ⟨S_, .i32⟩
  | .hbm, ⟨30, _⟩ => ⟨S4950, .i32⟩
  | .hbm, ⟨31, _⟩ => ⟨S4950, .i32⟩
  | .hbm, ⟨32, _⟩ => ⟨S4950, .i32⟩
  | .hbm, ⟨33, _⟩ => ⟨S4950x1, .i32⟩
  | .hbm, ⟨34, _⟩ => ⟨S1, .i32⟩
  | .hbm, ⟨35, _⟩ => ⟨S_, .i32⟩
  | .hbm, ⟨36, _⟩ => ⟨S4950x1, .i32⟩
  | .hbm, ⟨37, _⟩ => ⟨S4950x1, .i1⟩
  | .hbm, ⟨38, _⟩ => ⟨S1x1, .i32⟩
  | .hbm, ⟨39, _⟩ => ⟨S4950x1, .i32⟩
  | .hbm, ⟨40, _⟩ => ⟨S4950x1, .i1⟩
  | .hbm, ⟨41, _⟩ => ⟨S4950x1, .i1⟩
  | .hbm, ⟨42, _⟩ => ⟨S_, .i1⟩
  | .hbm, ⟨43, _⟩ => ⟨S4950, .i1⟩
  | .hbm, ⟨44, _⟩ => ⟨S16384x4950x16, .f32⟩
  | .hbm, ⟨45, _⟩ => ⟨S16384x4950x16, .i1⟩
  | .hbm, ⟨46, _⟩ => ⟨S_, .f32⟩
  | .hbm, ⟨47, _⟩ => ⟨S16384x4950x16, .f32⟩
  | .hbm, ⟨48, _⟩ => ⟨S16384x4950x16, .f32⟩
  | .hbm, ⟨49, _⟩ => ⟨S16384x4950x16, .f32⟩
  | .hbm, ⟨50, _⟩ => ⟨S_, .f32⟩
  | .hbm, ⟨51, _⟩ => ⟨S16384x4950, .f32⟩
  | .hbm, ⟨52, _⟩ => ⟨S16384x100x16, .f32⟩
  | .hbm, ⟨53, _⟩ => ⟨S_, .f32⟩
  | .hbm, ⟨54, _⟩ => ⟨S16384x100, .f32⟩
  | .hbm, ⟨55, _⟩ => ⟨S_, .f32⟩
  | .hbm, ⟨56, _⟩ => ⟨S16384x100, .f32⟩
  | .hbm, ⟨57, _⟩ => ⟨S16384x100, .f32⟩
  | .hbm, ⟨58, _⟩ => ⟨S16384x100, .f32⟩
  | .hbm, ⟨59, _⟩ => ⟨S_, .i32⟩
  | .hbm, ⟨60, _⟩ => ⟨S4950, .i32⟩
  | .hbm, ⟨61, _⟩ => ⟨S4950, .i1⟩
  | .hbm, ⟨62, _⟩ => ⟨S_, .i32⟩
  | .hbm, ⟨63, _⟩ => ⟨S4950, .i32⟩
  | .hbm, ⟨64, _⟩ => ⟨S4950, .i32⟩
  | .hbm, ⟨65, _⟩ => ⟨S4950, .i32⟩
  | .hbm, ⟨66, _⟩ => ⟨S4950x1, .i32⟩
  | .hbm, ⟨67, _⟩ => ⟨S1, .i32⟩
  | .hbm, ⟨68, _⟩ => ⟨S_, .i32⟩
  | .hbm, ⟨69, _⟩ => ⟨S4950x1, .i32⟩
  | .hbm, ⟨70, _⟩ => ⟨S4950x1, .i1⟩
  | .hbm, ⟨71, _⟩ => ⟨S1x1, .i32⟩
  | .hbm, ⟨72, _⟩ => ⟨S4950x1, .i32⟩
  | .hbm, ⟨73, _⟩ => ⟨S4950x1, .i1⟩
  | .hbm, ⟨74, _⟩ => ⟨S4950x1, .i1⟩
  | .hbm, ⟨75, _⟩ => ⟨S_, .i1⟩
  | .hbm, ⟨76, _⟩ => ⟨S4950, .i1⟩
  | .hbm, ⟨77, _⟩ => ⟨S16384x4950, .f32⟩
  | .hbm, ⟨78, _⟩ => ⟨S16384x4950, .i1⟩
  | .hbm, ⟨79, _⟩ => ⟨S_, .f32⟩
  | .hbm, ⟨80, _⟩ => ⟨S16384x4950, .f32⟩
  | .hbm, ⟨81, _⟩ => ⟨S16384x4950, .f32⟩
  | .hbm, ⟨82, _⟩ => ⟨S_, .i32⟩
  | .hbm, ⟨83, _⟩ => ⟨S4950, .i32⟩
  | .hbm, ⟨84, _⟩ => ⟨S4950, .i1⟩
  | .hbm, ⟨85, _⟩ => ⟨S_, .i32⟩
  | .hbm, ⟨86, _⟩ => ⟨S4950, .i32⟩
  | .hbm, ⟨87, _⟩ => ⟨S4950, .i32⟩
  | .hbm, ⟨88, _⟩ => ⟨S4950, .i32⟩
  | .hbm, ⟨89, _⟩ => ⟨S4950x1, .i32⟩
  | .hbm, ⟨90, _⟩ => ⟨S1, .i32⟩
  | .hbm, ⟨91, _⟩ => ⟨S_, .i32⟩
  | .hbm, ⟨92, _⟩ => ⟨S4950x1, .i32⟩
  | .hbm, ⟨93, _⟩ => ⟨S4950x1, .i1⟩
  | .hbm, ⟨94, _⟩ => ⟨S1x1, .i32⟩
  | .hbm, ⟨95, _⟩ => ⟨S4950x1, .i32⟩
  | .hbm, ⟨96, _⟩ => ⟨S4950x1, .i1⟩
  | .hbm, ⟨97, _⟩ => ⟨S4950x1, .i1⟩
  | .hbm, ⟨98, _⟩ => ⟨S_, .i1⟩
  | .hbm, ⟨99, _⟩ => ⟨S4950, .i1⟩
  | .hbm, ⟨100, _⟩ => ⟨S16384x4950, .f32⟩
  | .hbm, ⟨101, _⟩ => ⟨S16384x4950, .i1⟩
  | .hbm, ⟨102, _⟩ => ⟨S_, .f32⟩
  | .hbm, ⟨103, _⟩ => ⟨S16384x4950, .f32⟩
  | .hbm, ⟨104, _⟩ => ⟨S16384x4950, .f32⟩
  | .hbm, ⟨105, _⟩ => ⟨S_, .f32⟩
  | .hbm, ⟨106, _⟩ => ⟨S16384x4950, .f32⟩
  | .hbm, ⟨107, _⟩ => ⟨S16384x4950, .f32⟩
  | .hbm, ⟨108, _⟩ => ⟨S16384x4950, .f32⟩
  | .hbm, ⟨109, _⟩ => ⟨S16384x4950, .f32⟩
  | .hbm, ⟨110, _⟩ => ⟨S16384x4950, .f32⟩
  | .hbm, ⟨111, _⟩ => ⟨S16384x4950, .f32⟩
  | .hbm, ⟨112, _⟩ => ⟨S_, .f32⟩
  | .hbm, ⟨113, _⟩ => ⟨S16384x4950, .f32⟩
  | .hbm, ⟨114, _⟩ => ⟨S16384x4950, .f32⟩
  | .hbm, ⟨115, _⟩ => ⟨S_, .f32⟩
  | .hbm, ⟨116, _⟩ => ⟨S16384, .f32⟩
  | _, _ => ⟨S16384x100x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_cst : Ref sig .tc := ⟨.hbm, 50, rfl⟩
abbrev main_v3 : Ref sig .tc := ⟨.hbm, 51, rfl⟩
abbrev main_v4 : Ref sig .tc := ⟨.hbm, 52, rfl⟩
abbrev main_cst_1 : Ref sig .tc := ⟨.hbm, 53, rfl⟩
abbrev main_v5 : Ref sig .tc := ⟨.hbm, 54, rfl⟩
abbrev main_cst_2 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v9 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v10 : Ref sig .tc := ⟨.hbm, 104, rfl⟩
abbrev main_cst_3 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_cst_4 : Ref sig .tc := ⟨.hbm, 112, rfl⟩
abbrev main_v17 : Ref sig .tc := ⟨.hbm, 113, rfl⟩
abbrev main_v18 : Ref sig .tc := ⟨.hbm, 114, rfl⟩
abbrev main_cst_5 : Ref sig .tc := ⟨.hbm, 115, rfl⟩
abbrev main_v19 : Ref sig .tc := ⟨.hbm, 116, rfl⟩

abbrev nD : Nat := 1
abbrev τ : Topo := Topo.v7x

variable {F : FTy → Type} [FloatOps F]
-- ==== Proof.Coe.lean ====
/-
  Real numbers among the extended reals: sums, quotients, roots and the printed constants.
-/
module

public import Idealize.ShloMosaic.Lib.Pointwise
public import Idealize.ShloMosaic.Lib.IdealHost

@[expose] public section

noncomputable section

namespace Cert.Hand

open Idealize.ShloMosaic

/-- A sum of reals among the extended reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The pattern of two. -/
theorem bits_two : Ideal.ofBits .f32 0x40000000#32 = ((2 : ℝ) : EReal) := by
  simp [Ideal.ofBits, Ideal.ieee, -EReal.coe_mul]; norm_num
/-- The pattern of one half. -/
theorem bits_half : Ideal.ofBits .f32 0x3F000000#32 = ((1 / 2 : ℝ) : EReal) := by
  simp [Ideal.ofBits, Ideal.ieee, -EReal.coe_mul]; norm_num
/-- The pattern of five thousand. -/
theorem bits_5000 : Ideal.ofBits .f32 0x459C4000#32 = ((5000 : ℝ) : EReal) := by
  simp [Ideal.ofBits, Ideal.ieee, -EReal.coe_mul]; norm_num
/-- The pattern of ninety-nine. -/
theorem bits_99 : Ideal.ofBits .f32 0x42C60000#32 = ((99 : ℝ) : EReal) := by
  simp [Ideal.ofBits, Ideal.ieee, -EReal.coe_mul]; norm_num

/-- The reciprocal root of a positive real. -/
theorem rsqrt_pos (r : ℝ) (h : 0 < r) : Ideal.rsqrt ((r : ℝ) : EReal) = (((√r)⁻¹ : ℝ) : EReal) := by
  rw [Ideal.rsqrt_coe, if_neg h.not_gt, if_neg h.ne']

/-- The root of a positive real. -/
theorem sqrt_pos (r : ℝ) (h : 0 < r) : Ideal.sqrt ((r : ℝ) : EReal) = ((√r : ℝ) : EReal) := by
  rw [Ideal.sqrt_coe, if_neg h.not_gt]

end Cert.Hand

end
-- ==== Proof.PairSum.lean ====
/-
  Sums over unordered pairs of fields, in the reals: the closed form that replaces the sum over all pairs.
-/
module

public import Idealize.ShloMosaic.Lib.Pointwise

@[expose] public section

namespace Cert.Hand

open Finset

/-- The pairs `(i, j)` with `i < j`. -/
abbrev pairs (n : ℕ) : Finset (Fin n × Fin n) := univ.filter fun p => p.1 < p.2

/-- The sum of a symmetric function over all ordered pairs is twice its sum over the pairs `i < j`, and its diagonal. -/
theorem sum_symm_eq {n : ℕ} (g : Fin n → Fin n → ℝ) (hg : ∀ i j, g i j = g j i) :
    ∑ i, ∑ j, g i j = 2 * ∑ p ∈ pairs n, g p.1 p.2 + ∑ i, g i i := by
  have hs : ∀ i j, g i j = (if i < j then g i j else 0) + (if j < i then g j i else 0) + (if i = j then g i i else 0) := by
    intro i j
    rcases lt_trichotomy i j with h | h | h
    · simp [h, h.not_gt, h.ne]
    · subst h; simp
    · simp [h, h.not_gt, h.ne', hg i j]
  have hp : ∑ p ∈ pairs n, g p.1 p.2 = ∑ i, ∑ j, if i < j then g i j else 0 := by
    rw [Finset.sum_filter, Fintype.sum_prod_type]
  have hc : (∑ i, ∑ j, if j < i then g j i else 0) = ∑ i, ∑ j, if i < j then g i j else 0 :=
    Finset.sum_comm
  have hd : (∑ i, ∑ j, if i = j then g i i else 0) = ∑ i, g i i := by simp
  calc ∑ i, ∑ j, g i j
      = ∑ i, ∑ j, ((if i < j then g i j else 0) + (if j < i then g j i else 0) + (if i = j then g i i else 0)) :=
        Finset.sum_congr rfl fun i _ => Finset.sum_congr rfl fun j _ => hs i j
    _ = _ := by simp only [Finset.sum_add_distrib]; rw [hc, hd, hp]; ring

/-- The sum of the squares of the weighted component sums is the double sum of the weighted inner products. -/
theorem sum_sq_eq {n d : ℕ} (x : Fin n → Fin d → ℝ) (w : Fin n → ℝ) :
    ∑ e, (∑ i, x i e * w i) * (∑ i, x i e * w i) = ∑ i, ∑ j, w i * w j * ∑ e, x i e * x j e := by
  simp only [Finset.sum_mul_sum]
  simp only [Finset.mul_sum]
  rw [Finset.sum_comm]
  refine Finset.sum_congr rfl fun i _ => ?_
  rw [Finset.sum_comm]
  exact Finset.sum_congr rfl fun j _ => Finset.sum_congr rfl fun e _ => by ring

/-- One field's time-like coordinate: the square root of one and the squared length. -/
noncomputable def tim {n d : ℕ} (x : Fin n → Fin d → ℝ) (i : Fin n) : ℝ := √(1 + ∑ e, x i e * x i e)

/-- The root is of a number that is at least one, so it is positive. -/
theorem tim_pos {n d : ℕ} (x : Fin n → Fin d → ℝ) (i : Fin n) : 0 < tim x i :=
  Real.sqrt_pos.mpr (by have := Finset.sum_nonneg fun e (_ : e ∈ univ) => mul_self_nonneg (x i e); linarith)

/-- Its square is one and the squared length. -/
theorem tim_sq {n d : ℕ} (x : Fin n → Fin d → ℝ) (i : Fin n) : tim x i * tim x i = 1 + ∑ e, x i e * x i e :=
  Real.mul_self_sqrt (by have := Finset.sum_nonneg fun e (_ : e ∈ univ) => mul_self_nonneg (x i e); linarith)

/-- One pair's term of the reference. -/
noncomputable def term {n d : ℕ} (x : Fin n → Fin d → ℝ) (i j : Fin n) : ℝ :=
  1 + (1 - (∑ e, x i e * x j e) - tim x i - tim x j) * (1 / (tim x i * tim x j))

/-- One pair's term, multiplied out. -/
theorem term_eq {n d : ℕ} (x : Fin n → Fin d → ℝ) (i j : Fin n) :
    term x i j = 1 + (tim x i)⁻¹ * (tim x j)⁻¹ - (tim x i)⁻¹ * (tim x j)⁻¹ * (∑ e, x i e * x j e)
      - (tim x j)⁻¹ - (tim x i)⁻¹ := by
  have hi := (tim_pos x i).ne'
  have hj := (tim_pos x j).ne'
  unfold term
  field_simp
  ring

/-- The sum over all pairs of 100 fields is the closed form in three sums over the fields. -/
theorem pair_sum {d : ℕ} (x : Fin 100 → Fin d → ℝ) :
    ∑ p ∈ pairs 100, term x p.1 p.2
      = 5000 + (1 / 2) * ((∑ i, (tim x i)⁻¹) * (∑ i, (tim x i)⁻¹) - 2 * (∑ i, (tim x i)⁻¹ * (tim x i)⁻¹)
          - ∑ e, (∑ i, x i e * (tim x i)⁻¹) * (∑ i, x i e * (tim x i)⁻¹)) - 99 * ∑ i, (tim x i)⁻¹ := by
  have hsym : ∀ i j, term x i j = term x j i := by
    intro i j
    have : ∑ e, x i e * x j e = ∑ e, x j e * x i e := Finset.sum_congr rfl fun e _ => mul_comm _ _
    rw [term_eq, term_eq, this]; ring
  have h := sum_symm_eq (term x) hsym
  have hdiag : ∀ i, term x i i = 2 * ((tim x i)⁻¹ * (tim x i)⁻¹) - 2 * (tim x i)⁻¹ := by
    intro i
    have hi := (tim_pos x i).ne'
    have hs : ∑ e, x i e * x i e = tim x i * tim x i - 1 := by rw [tim_sq]; ring
    rw [term_eq, hs]
    field_simp
    ring
  have hfull : ∑ i, ∑ j, term x i j = 10000 + (∑ i, (tim x i)⁻¹) * (∑ i, (tim x i)⁻¹)
      - (∑ e, (∑ i, x i e * (tim x i)⁻¹) * (∑ i, x i e * (tim x i)⁻¹)) - 200 * ∑ i, (tim x i)⁻¹ := by
    rw [sum_sq_eq x fun i => (tim x i)⁻¹, Finset.sum_mul_sum]
    simp only [term_eq, Finset.sum_add_distrib, Finset.sum_sub_distrib, Finset.sum_const, Finset.card_univ,
      Fintype.card_fin, smul_eq_mul, nsmul_eq_mul, ← Finset.mul_sum]
    push_cast
    ring
  rw [hfull] at h
  simp only [hdiag, Finset.sum_sub_distrib, ← Finset.mul_sum] at h
  linarith

end Cert.Hand

end
-- ==== Proof.KernelPay.lean ====
/-
  What the kernel's body computes for one row of a block of real numbers.
-/
module

public import proofs.«01_k».proof.Proof.Gen.KernelIdeal.Value
public import proofs.«01_k».proof.Proof.Coe
public import proofs.«01_k».proof.Proof.PairSum

@[expose] public section

noncomputable section

namespace Cert.Hand

open Cert.KernelIdeal Cert.KernelIdeal.Gen Idealize.ShloMosaic

set_option maxRecDepth 16384 in
/-- Row `r` of the body's result, for a block whose row `r` holds the reals `x`, is the sum over the pairs. -/
theorem pay_apply (P : FVec Ideal S128x100x16 .f32) (r : Fin 128) (x : Fin 100 → Fin 16 → ℝ)
    (hx : ∀ i e, P (ix3 r i e) = ((x i e : ℝ) : EReal)) :
    k0_pay1 (F := Ideal) P (ix1 r) = ((∑ p ∈ pairs 100, term x p.1 p.2 : ℝ) : EReal) := by
  have hpos : ∀ i, 0 < 1 + ∑ e, x i e * x i e := fun i => by
    have := Finset.sum_nonneg fun e (_ : e ∈ Finset.univ) => mul_self_nonneg (x i e); linarith
  pointwise [k0_pay1]
  simp only [hx, ← EReal.coe_mul, coe_sum, ← EReal.coe_one, ← EReal.coe_add]
  simp only [rsqrt_pos _ (hpos _), bits_two, bits_half, bits_5000, bits_99, ← EReal.coe_mul, coe_sum, ← EReal.coe_add,
    ← EReal.coe_sub]
  rw [pair_sum]
  rfl

end Cert.Hand

end
-- ==== Proof.KernelValue.lean ====
/-
  The kernel's result array, at arguments that are real numbers: every row holds the sum over its pairs.
-/
module

public import proofs.«01_k».proof.Proof.KernelPay
public import Idealize.ShloMosaic.Lib.Pipeline.ValueKit

@[expose] public section

noncomputable section

namespace Cert.Hand

open Cert.KernelIdeal Cert.KernelIdeal.Gen Idealize.ShloMosaic Idealize.ShloMosaic.TcCoe Idealize.SL.Sem
open Idealize.ShloMosaic.Pipeline (Dat)

/-- For each row, the sum over the pairs of fields of the row's real numbers. -/
def rowSum (X : FVec Ideal S16384x100x16 .f32) : FVec Ideal S16384 .f32 :=
  fun i => ((∑ p ∈ pairs 100, term (fun (a : Fin 100) (e : Fin 16) => (X (ix3 (i 0) a e)).toReal) p.1 p.2 : ℝ) : EReal)

variable (m : (ℓ : Loc nD τ sig) → Buf (Elt Ideal) ℓ)

/-- The input window's block at point `t` starts at row `128 t`. -/
theorem index_in : ∀ t : Fin cfg0.N, win0_0.index t = ![t.val, 0, 0] :=
  (by decide +kernel : ∀ t : Fin grid0.N, win0_0.index t = ![t.val, 0, 0])

/-- The output window's block at point `t` starts at row `128 t`. -/
theorem index_out : ∀ t : Fin cfg0.N, win0_1.index t = ![t.val] :=
  (by decide +kernel : ∀ t : Fin grid0.N, win0_1.index t = ![t.val])

/-- The three-axis zero offset. -/
theorem hz3 : (![0, 0, 0] : Fin 3 → Nat) = fun _ => 0 := funext fun a => by fin_cases a <;> rfl
/-- The one-axis zero offset. -/
theorem hz1 : (![0] : Fin 1 → Nat) = fun _ => 0 := funext fun a => by fin_cases a; rfl

/-- The kernel's result array is `rowSum` of its argument, where that holds real numbers. -/
theorem final (c : Dev nD) (hreal : ∀ i, ∃ r : ℝ, (m ((c.tc : Thread nD τ).loc main_arg0) : FVec Ideal S16384x100x16 .f32) i = ((r : ℝ) : EReal)) :
    (dats m 0 c).arrAt 1 cfg0.N = rowSum (m ((c.tc : Thread nD τ).loc main_arg0)) := by
  refine (dats m 0 c).arrAt_eq_of_covers 1 _ (by decide +kernel) fun t hf y => ?_
  blk_simp
  rw [after0_1]
  unfold out0_1
  rw [View.canon_unit_zero hz1, View.ld_unit_zero hz3]
  obtain ⟨r, rfl⟩ : ∃ r : Fin 128, y = ix1 r := ⟨y 0, eq_ix1 y⟩
  refine pay_apply _ r _ fun a e => ?_
  blk_simp [iblk]
  rw [V_main_arg0]
  have hi : ((cfg0.win 0).blk t).view.emb (ix3 r a e) = ix3 (((cfg0.win 1).blk t).view.emb (ix1 r) 0) a e := by
    blk_ext [index_in, index_out]
  refine (congrArg (m ((c.tc : Thread nD τ).loc main_arg0)) hi).trans ?_
  obtain ⟨v, hv⟩ := hreal (ix3 (((cfg0.win 1).blk t).view.emb (ix1 r) 0) a e)
  exact hv.trans (congrArg (fun z : EReal => ((z.toReal : ℝ) : EReal)) hv).symm

end Cert.Hand

end
-- ==== Proof.RefTake.lean ====
/-
  The reference's four takes, read at an index: at index words in range each take reads the named field.
-/
module

public import proofs.«01_k».proof.Proof.Gen.ReferenceIdeal
public import Idealize.ShloMosaic.Lib.Pointwise
public import Idealize.ShloMosaic.Lib.WordCmp
public import Idealize.ShloMosaic.Lib.IdealHost

@[expose] public section

noncomputable section

namespace Cert.Hand

open Cert.ReferenceIdeal Cert.ReferenceIdeal.Gen Idealize.ShloMosaic

variable {F : FTy → Type} [FloatOps F]

/-- The index words after the wrap of negative ones, as a column. -/
def wrapped (L : IVec S4950 32) : IVec S4950x1 32 :=
  broadcastInDim S4950x1 ![0] bcast_S4950_S4950x1_0 (select (cmpi .slt L (broadcastInDim S4950 ![] bcast_S_S4950 (constantI S_ 32 0#32))) (addi L (broadcastInDim S4950 ![] bcast_S_S4950 (constantI S_ 32 100#32))) L)

/-- Which index words are in range. -/
def inRange (L : IVec S4950 32) : IVec S4950 1 :=
  Host.reduce IntOp.andi (andi (cmpi .sge (wrapped L) (broadcastInDim S4950x1 ![] bcast_S_S4950x1 (constantI S_ 32 0#32))) (cmpi .sle (wrapped L) (broadcastInDim S4950x1 ![0, 1] bcast_S1x1_S4950x1_0_1 (broadcastInDim S1x1 ![1] bcast_S1_S1x1_1 (constantI S1 32 99#32))))) (constantI S_ 1 1#1) reducesTo_S4950x1_S4950_d1 h_S_

/-- The take of the fields' vectors. -/
def take3 (L : IVec S4950 32) (x : FVec F S16384x100x16 .f32) : FVec F S16384x4950x16 .f32 :=
  select (broadcastInDim S16384x4950x16 ![1] bcast_S4950_S16384x4950x16_1 (inRange L)) (Host.gather gather_S16384x100x16_S4950x1_S16384x4950x16_02_1_n_n_1_1_16384116 x (wrapped L)) (broadcastInDim S16384x4950x16 ![] bcast_S_S16384x4950x16 (constant S_ .f32 0x7FC00000#32))

/-- The take of the fields' numbers. -/
def take2 (L : IVec S4950 32) (v : FVec F S16384x100 .f32) : FVec F S16384x4950 .f32 :=
  select (broadcastInDim S16384x4950 ![1] bcast_S4950_S16384x4950_1 (inRange L)) (Host.gather gather_S16384x100_S4950x1_S16384x4950_0_1_n_n_1_1_163841 v (wrapped L)) (broadcastInDim S16384x4950 ![] bcast_S_S16384x4950 (constant S_ .f32 0x7FC00000#32))

/-- Index words in range are not wrapped. -/
theorem wrapped_apply (L : IVec S4950 32) (hL : ∀ i, (L i).toNat < 100) (k : Fin 4950) :
    wrapped L (ix2 k 0) = L (ix1 k) := by
  have h0 : IntOp.cmpi .slt (L (ix1 k)) 0#32 = 0#1 := by
    rw [WordCmp.cmpi_slt_of_lt (by have := hL (ix1 k); omega) (by decide)]
    simp
  unfold wrapped
  pointwise
  rw [h0]
  rfl

/-- All index words are in range. -/
theorem inRange_apply (L : IVec S4950 32) (hL : ∀ i, (L i).toNat < 100) (k : S4950.Idx) : inRange L k = 1#1 := by
  unfold inRange
  rw [Host.reduce_eq_foldl]
  have hx : ∀ i : S4950x1.Idx, andi (cmpi .sge (wrapped L) (broadcastInDim S4950x1 ![] bcast_S_S4950x1 (constantI S_ 32 0#32))) (cmpi .sle (wrapped L) (broadcastInDim S4950x1 ![0, 1] bcast_S1x1_S4950x1_0_1 (broadcastInDim S1x1 ![1] bcast_S1_S1x1_1 (constantI S1 32 99#32)))) i = 1#1 := by
    intro i
    obtain ⟨a, rfl⟩ : ∃ a : Fin 4950, i = ix2 a 0 := ⟨i 0, by
      rw [eq_ix2 i]; congr 1; exact Fin.ext (by have : (i 1).val < 1 := (i 1).isLt; show (i 1).val = 0; omega)⟩
    show IntOp.andi (IntOp.cmpi .sge (wrapped L (ix2 a 0)) 0#32) (IntOp.cmpi .sle (wrapped L (ix2 a 0)) 99#32) = 1#1
    have hw := wrapped_apply L hL a
    have hb := hL (ix1 a)
    rw [hw, WordCmp.cmpi_sge_of_lt (by omega) (by decide), WordCmp.cmpi_sle_of_lt (by omega) (by decide)]
    have e : (L (ix1 a)).toNat ≤ (99#32).toNat := by show _ ≤ 99; omega
    rw [decide_eq_true e, decide_eq_true (show (0#32).toNat ≤ (L (ix1 a)).toNat from Nat.zero_le _)]
    rfl
  generalize ((List.finRange S4950x1.numel).map S4950x1.rowMajor.symm).filter _ = l
  have : ∀ l : List S4950x1.Idx, l.foldl (fun r i => IntOp.andi r (andi (cmpi .sge (wrapped L) (broadcastInDim S4950x1 ![] bcast_S_S4950x1 (constantI S_ 32 0#32))) (cmpi .sle (wrapped L) (broadcastInDim S4950x1 ![0, 1] bcast_S1x1_S4950x1_0_1 (broadcastInDim S1x1 ![1] bcast_S1_S1x1_1 (constantI S1 32 99#32)))) i)) 1#1 = 1#1 := by
    intro l
    induction l with
    | nil => rfl
    | cons a l ih => rw [List.foldl_cons, hx a]; exact ih
  exact this l

/-- The gather of vectors at an index. -/
theorem gather3_apply {α : Type} (x : S16384x100x16.Idx → α) (idx : IVec S4950x1 32) (b : Fin 16384) (k : Fin 4950) (e : Fin 16)
    (i : Fin 100) (hi : (idx (ix2 k 0)).toInt.toNat = i.val) :
    Host.gather gather_S16384x100x16_S4950x1_S16384x4950x16_02_1_n_n_1_1_16384116 x idx (ix3 b k e) = x (ix3 b i e) := by
  unfold Host.gather
  refine congrArg x (funext fun a => Fin.ext ?_)
  show GatherDims.start _ (ix3 b k e) idx a + GatherDims.batchCoord _ (ix3 b k e) a + GatherDims.offCoord _ (ix3 b k e) a = _
  rw [GatherDims.batchCoord_eq_zero _ _ _ (show a ∉ ([] : List (Fin 3)) from List.not_mem_nil)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start
    rw [dif_neg (show (0 : Fin 3) ∉ GatherDims.startIndexMap gather_S16384x100x16_S4950x1_S16384x4950x16_02_1_n_n_1_1_16384116 by decide)]
    unfold GatherDims.offCoord
    rw [dif_pos (show (0 : Fin 3) ∈ GatherDims.sKept gather_S16384x100x16_S4950x1_S16384x4950x16_02_1_n_n_1_1_16384116 by decide)]
    simp only [Nat.zero_add]
    rfl
  · rw [GatherDims.offCoord_eq_zero _ _ _ (show (1 : Fin 3) ∉ GatherDims.sKept gather_S16384x100x16_S4950x1_S16384x4950x16_02_1_n_n_1_1_16384116 by decide)]
    unfold GatherDims.start
    rw [dif_pos (show (1 : Fin 3) ∈ GatherDims.startIndexMap gather_S16384x100x16_S4950x1_S16384x4950x16_02_1_n_n_1_1_16384116 by decide)]
    have hsi : GatherDims.siIdx gather_S16384x100x16_S4950x1_S16384x4950x16_02_1_n_n_1_1_16384116 (ix3 b k e)
        ⟨List.idxOf (1 : Fin 3) [1], by decide⟩ = ix2 k 0 := by
      funext b'; refine Fin.ext ?_
      match b' with
      | ⟨0, _⟩ => rfl
      | ⟨1, _⟩ => rfl
    have hs : GatherDims.sliceSizes gather_S16384x100x16_S4950x1_S16384x4950x16_02_1_n_n_1_1_16384116 (1 : Fin 3) = 1 := rfl
    have := i.isLt
    show min (idx (GatherDims.siIdx gather_S16384x100x16_S4950x1_S16384x4950x16_02_1_n_n_1_1_16384116 (ix3 b k e)
        ⟨List.idxOf (1 : Fin 3) [1], by decide⟩)).toInt.toNat (100 - 1) + 0 + 0 = i.val
    rw [hsi, hi]
    omega
  · unfold GatherDims.start
    rw [dif_neg (show (2 : Fin 3) ∉ GatherDims.startIndexMap gather_S16384x100x16_S4950x1_S16384x4950x16_02_1_n_n_1_1_16384116 by decide)]
    unfold GatherDims.offCoord
    rw [dif_pos (show (2 : Fin 3) ∈ GatherDims.sKept gather_S16384x100x16_S4950x1_S16384x4950x16_02_1_n_n_1_1_16384116 by decide)]
    simp only [Nat.zero_add]
    rfl

/-- The gather of numbers at an index. -/
theorem gather2_apply {α : Type} (x : S16384x100.Idx → α) (idx : IVec S4950x1 32) (b : Fin 16384) (k : Fin 4950)
    (i : Fin 100) (hi : (idx (ix2 k 0)).toInt.toNat = i.val) :
    Host.gather gather_S16384x100_S4950x1_S16384x4950_0_1_n_n_1_1_163841 x idx (ix2 b k) = x (ix2 b i) := by
  unfold Host.gather
  refine congrArg x (funext fun a => Fin.ext ?_)
  show GatherDims.start _ (ix2 b k) idx a + GatherDims.batchCoord _ (ix2 b k) a + GatherDims.offCoord _ (ix2 b k) a = _
  rw [GatherDims.batchCoord_eq_zero _ _ _ (show a ∉ ([] : List (Fin 2)) from List.not_mem_nil)]
  have ha : a = 0 ∨ a = 1 := by
    match a with
    | ⟨0, _⟩ => exact Or.inl rfl
    | ⟨1, _⟩ => exact Or.inr rfl
  rcases ha with rfl | rfl
  · unfold GatherDims.start
    rw [dif_neg (show (0 : Fin 2) ∉ GatherDims.startIndexMap gather_S16384x100_S4950x1_S16384x4950_0_1_n_n_1_1_163841 by decide)]
    unfold GatherDims.offCoord
    rw [dif_pos (show (0 : Fin 2) ∈ GatherDims.sKept gather_S16384x100_S4950x1_S16384x4950_0_1_n_n_1_1_163841 by decide)]
    simp only [Nat.zero_add]
    rfl
  · rw [GatherDims.offCoord_eq_zero _ _ _ (show (1 : Fin 2) ∉ GatherDims.sKept gather_S16384x100_S4950x1_S16384x4950_0_1_n_n_1_1_163841 by decide)]
    unfold GatherDims.start
    rw [dif_pos (show (1 : Fin 2) ∈ GatherDims.startIndexMap gather_S16384x100_S4950x1_S16384x4950_0_1_n_n_1_1_163841 by decide)]
    have hsi : GatherDims.siIdx gather_S16384x100_S4950x1_S16384x4950_0_1_n_n_1_1_163841 (ix2 b k)
        ⟨List.idxOf (1 : Fin 2) [1], by decide⟩ = ix2 k 0 := by
      funext b'; refine Fin.ext ?_
      match b' with
      | ⟨0, _⟩ => rfl
      | ⟨1, _⟩ => rfl
    have := i.isLt
    show min (idx (GatherDims.siIdx gather_S16384x100_S4950x1_S16384x4950_0_1_n_n_1_1_163841 (ix2 b k)
        ⟨List.idxOf (1 : Fin 2) [1], by decide⟩)).toInt.toNat (100 - 1) + 0 + 0 = i.val
    rw [hsi, hi]
    omega

/-- An index word in range, read signed, is the field's number. -/
theorem word_toInt (L : IVec S4950 32) (hL : ∀ i, (L i).toNat < 100) (k : Fin 4950) :
    (wrapped L (ix2 k 0)).toInt.toNat = (L (ix1 k)).toNat := by
  rw [wrapped_apply L hL k, WordCmp.toInt_eq_toNat_of_lt_half (by have := hL (ix1 k); omega)]
  rfl

/-- The take of vectors at index words in range reads the named field's vector. -/
theorem take3_apply (L : IVec S4950 32) (hL : ∀ i, (L i).toNat < 100) (x : FVec F S16384x100x16 .f32) (b : Fin 16384)
    (k : Fin 4950) (e : Fin 16) : take3 L x (ix3 b k e) = x (ix3 b ⟨(L (ix1 k)).toNat, hL _⟩ e) := by
  show Scalar.select (inRange L _) (Host.gather _ x (wrapped L) (ix3 b k e)) _ = _
  rw [inRange_apply L hL, ValueIdx.select_one]
  exact gather3_apply x (wrapped L) b k e _ (word_toInt L hL k)

/-- The take of numbers at index words in range reads the named field's number. -/
theorem take2_apply (L : IVec S4950 32) (hL : ∀ i, (L i).toNat < 100) (v : FVec F S16384x100 .f32) (b : Fin 16384)
    (k : Fin 4950) : take2 L v (ix2 b k) = v (ix2 b ⟨(L (ix1 k)).toNat, hL _⟩) := by
  show Scalar.select (inRange L _) (Host.gather _ v (wrapped L) (ix2 b k)) _ = _
  rw [inRange_apply L hL, ValueIdx.select_one]
  exact gather2_apply v (wrapped L) b k _ (word_toInt L hL k)

end Cert.Hand

end
-- ==== Proof.Tables.lean ====
/-
  The reference's two index tables: position by position they list the pairs `i < j` of the 100 fields, each pair once.
-/
module

public import proofs.«01_k».proof.Proof.Gen.ReferenceIdeal
public import proofs.«01_k».proof.Proof.PairSum

@[expose] public section

noncomputable section

namespace Cert.Hand

open Cert.ReferenceIdeal Finset

/-- The position at which a pair stands. -/
abbrev posOf (i j : ℕ) : ℕ := i * (199 - i) / 2 + (j - i - 1)

/-- At every position the tables hold a pair `i < j < 100`, and it stands at that position. -/
theorem tables_at : ∀ a : Fin 50, ∀ b : Fin 99,
    (lit0t (a.val * 99 + b.val)).toNat < (lit1t (a.val * 99 + b.val)).toNat
      ∧ (lit1t (a.val * 99 + b.val)).toNat < 100
      ∧ posOf (lit0t (a.val * 99 + b.val)).toNat (lit1t (a.val * 99 + b.val)).toNat = a.val * 99 + b.val := by
  decide +kernel

/-- Every pair `i < j` stands in the tables at its position. -/
theorem tables_of : ∀ i j : Fin 100, i < j → posOf i.val j.val < 4950
      ∧ (lit0t (posOf i.val j.val)).toNat = i.val ∧ (lit1t (posOf i.val j.val)).toNat = j.val := by
  decide +kernel

/-- The facts of `tables_at` at a position. -/
theorem tables_pos (k : Fin 4950) :
    (lit0 k).toNat < (lit1 k).toNat ∧ (lit1 k).toNat < 100 ∧ posOf (lit0 k).toNat (lit1 k).toNat = k.val := by
  have h := tables_at ⟨k.val / 99, by omega⟩ ⟨k.val % 99, by omega⟩
  have hk : k.val / 99 * 99 + k.val % 99 = k.val := by omega
  simp only [hk] at h
  exact h

/-- The first field of the pair at a position. -/
def fst (k : Fin 4950) : Fin 100 := ⟨(lit0 k).toNat, by have := tables_pos k; omega⟩
/-- The second field of the pair at a position. -/
def snd (k : Fin 4950) : Fin 100 := ⟨(lit1 k).toNat, (tables_pos k).2.1⟩

/-- A sum over the positions is the sum over the pairs. -/
theorem sum_tables (f : Fin 100 → Fin 100 → ℝ) : ∑ k, f (fst k) (snd k) = ∑ p ∈ pairs 100, f p.1 p.2 := by
  refine Finset.sum_bij (fun k _ => (fst k, snd k)) ?_ ?_ ?_ ?_
  · intro k _
    exact Finset.mem_filter.mpr ⟨Finset.mem_univ _, (tables_pos k).1⟩
  · intro k _ k' _ h
    have h1 : (lit0 k).toNat = (lit0 k').toNat := congrArg (fun p => p.1.val) h
    have h2 : (lit1 k).toNat = (lit1 k').toNat := congrArg (fun p => p.2.val) h
    have e := (tables_pos k).2.2
    rw [h1, h2, (tables_pos k').2.2] at e
    exact Fin.ext e.symm
  · intro p hp
    obtain ⟨h0, h1, h2⟩ := tables_of p.1 p.2 (Finset.mem_filter.mp hp).2
    exact ⟨⟨posOf p.1.val p.2.val, h0⟩, Finset.mem_univ _, Prod.ext (Fin.ext h1) (Fin.ext h2)⟩
  · intro k _; rfl

end Cert.Hand

end
-- ==== Proof.RefValue.lean ====
/-
  The reference's result, read at a row of real numbers.
-/
module

public import proofs.«01_k».proof.Proof.Gen.ReferenceIdeal.Run
public import proofs.«01_k».proof.Proof.Coe
public import proofs.«01_k».proof.Proof.PairSum
public import proofs.«01_k».proof.Proof.RefTake
public import proofs.«01_k».proof.Proof.Tables

@[expose] public section

noncomputable section

namespace Cert.Hand

open Cert.ReferenceIdeal Cert.ReferenceIdeal.Gen Idealize.ShloMosaic Idealize.ShloMosaic.TcCoe Idealize.SL.Sem

/-- The fields' time-like coordinates, as the reference computes them. -/
def refTim (x : FVec Ideal S16384x100x16 .f32) : FVec Ideal S16384x100 .f32 :=
  Host.sqrt (addf (broadcastInDim S16384x100 ![] bcast_S_S16384x100 (constant S_ .f32 0x3F800000#32)) (Host.reduceAdd (mulf x x) (constant S_ .f32 0x00000000#32) reducesTo_S16384x100x16_S16384x100_d2 h_S_))

/-- The reference's result, from the taken vectors `p`, `q` and the taken numbers `u`, `v`. -/
def refSum (p q : FVec Ideal S16384x4950x16 .f32) (u v : FVec Ideal S16384x4950 .f32) : FVec Ideal S16384 .f32 :=
  Host.reduceAdd (addf (broadcastInDim S16384x4950 ![] bcast_S_S16384x4950 (constant S_ .f32 0x3F800000#32)) (Host.divf (subf (subf (subf (broadcastInDim S16384x4950 ![] bcast_S_S16384x4950 (constant S_ .f32 0x3F800000#32)) (Host.reduceAdd (mulf p q) (constant S_ .f32 0x00000000#32) reducesTo_S16384x4950x16_S16384x4950_d2 h_S_)) u) v) (mulf u v))) (constant S_ .f32 0x00000000#32) reducesTo_S16384x4950_S16384_d1 h_S_

/-- The reference's result for index tables `L0`, `L1`. -/
def refTerm (L0 L1 : IVec S4950 32) (x : FVec Ideal S16384x100x16 .f32) : FVec Ideal S16384 .f32 :=
  refSum (take3 L0 x) (take3 L1 x) (take2 L0 (refTim x)) (take2 L1 (refTim x))

/-- The first index table, as the reference holds it. -/
def tab0 : IVec S4950 32 := fun i => lit0 (S4950.rowMajor i)
/-- The second index table, as the reference holds it. -/
def tab1 : IVec S4950 32 := fun i => lit1 (S4950.rowMajor i)

set_option maxRecDepth 8192 in
/-- The run's term is `refTerm` of the two tables and the argument. -/
theorem res_eq (m : (ℓ : Loc nD τ sig) → Buf (Elt Ideal) ℓ) (c : Dev nD) :
    Value.res_main_v19 m c = refTerm tab0 tab1 (m ((c.tc : Thread nD τ).loc main_arg0)) := by
  unfold Value.res_main_v19
  rfl

/-- The flat position of a one-axis index is its coordinate. -/
theorem rowMajor_ix1 (k : Fin 4950) : S4950.rowMajor (ix1 k) = k :=
  Fin.ext (Shape.rowMajor_val_one (ix1 k))

/-- The first table at a position. -/
theorem tab0_apply (k : Fin 4950) : tab0 (ix1 k) = lit0 k := congrArg lit0 (rowMajor_ix1 k)
/-- The second table at a position. -/
theorem tab1_apply (k : Fin 4950) : tab1 (ix1 k) = lit1 k := congrArg lit1 (rowMajor_ix1 k)

/-- The first table's words are in range. -/
theorem tab0_lt (i : S4950.Idx) : (tab0 i).toNat < 100 := by
  obtain ⟨k, rfl⟩ : ∃ k : Fin 4950, i = ix1 k := ⟨i 0, eq_ix1 i⟩
  rw [tab0_apply]; exact (fst k).isLt
/-- The second table's words are in range. -/
theorem tab1_lt (i : S4950.Idx) : (tab1 i).toNat < 100 := by
  obtain ⟨k, rfl⟩ : ∃ k : Fin 4950, i = ix1 k := ⟨i 0, eq_ix1 i⟩
  rw [tab1_apply]; exact (snd k).isLt

/-- The first table's field at a position. -/
theorem tab0_fst (k : Fin 4950) : (⟨(tab0 (ix1 k)).toNat, tab0_lt _⟩ : Fin 100) = fst k :=
  Fin.ext (show (tab0 (ix1 k)).toNat = (lit0 k).toNat by rw [tab0_apply])
/-- The second table's field at a position. -/
theorem tab1_snd (k : Fin 4950) : (⟨(tab1 (ix1 k)).toNat, tab1_lt _⟩ : Fin 100) = snd k :=
  Fin.ext (show (tab1 (ix1 k)).toNat = (lit1 k).toNat by rw [tab1_apply])

/-- A field's time-like coordinate, for a row of real numbers. -/
theorem refTim_apply (X : FVec Ideal S16384x100x16 .f32) (b : Fin 16384) (x : Fin 100 → Fin 16 → ℝ)
    (hx : ∀ i e, X (ix3 b i e) = ((x i e : ℝ) : EReal)) (i : Fin 100) :
    refTim X (ix2 b i) = ((tim x i : ℝ) : EReal) := by
  have hpos : 0 < 1 + ∑ e, x i e * x i e := by
    have := Finset.sum_nonneg fun e (_ : e ∈ Finset.univ) => mul_self_nonneg (x i e); linarith
  unfold refTim
  pointwise
  simp only [hx, ← EReal.coe_mul, coe_sum, ← EReal.coe_one, ← EReal.coe_add, sqrt_pos _ hpos]
  rfl

/-- The reference's sum at a row whose taken vectors and numbers are real. -/
theorem refSum_apply (p q : FVec Ideal S16384x4950x16 .f32) (u v : FVec Ideal S16384x4950 .f32) (b : Fin 16384)
    (p' q' : Fin 4950 → Fin 16 → ℝ) (u' v' : Fin 4950 → ℝ)
    (hp : ∀ k e, p (ix3 b k e) = ((p' k e : ℝ) : EReal)) (hq : ∀ k e, q (ix3 b k e) = ((q' k e : ℝ) : EReal))
    (hu : ∀ k, u (ix2 b k) = ((u' k : ℝ) : EReal)) (hv : ∀ k, v (ix2 b k) = ((v' k : ℝ) : EReal))
    (hu0 : ∀ k, 0 < u' k) (hv0 : ∀ k, 0 < v' k) :
    refSum p q u v (ix1 b)
      = ((∑ k, (1 + (1 - (∑ e, p' k e * q' k e) - u' k - v' k) * (1 / (u' k * v' k))) : ℝ) : EReal) := by
  unfold refSum
  pointwise
  simp only [hp, hq, hu, hv, ← EReal.coe_mul, coe_sum, ← EReal.coe_one, ← EReal.coe_sub]
  simp only [fun k => Ideal.div_coe (mul_pos (hu0 k) (hv0 k)).ne', ← EReal.coe_mul, ← EReal.coe_add, coe_sum]

/-- The reference's result at a row of real numbers is the sum over the pairs. -/
theorem refTerm_apply (X : FVec Ideal S16384x100x16 .f32) (b : Fin 16384) (x : Fin 100 → Fin 16 → ℝ)
    (hx : ∀ i e, X (ix3 b i e) = ((x i e : ℝ) : EReal)) :
    refTerm tab0 tab1 X (ix1 b) = ((∑ p ∈ pairs 100, term x p.1 p.2 : ℝ) : EReal) := by
  rw [← sum_tables]
  refine refSum_apply _ _ _ _ b (fun k => x (fst k)) (fun k => x (snd k)) (fun k => tim x (fst k)) (fun k => tim x (snd k))
    ?_ ?_ ?_ ?_ (fun k => tim_pos x _) (fun k => tim_pos x _)
  · intro k e; rw [take3_apply _ tab0_lt, tab0_fst, hx]
  · intro k e; rw [take3_apply _ tab1_lt, tab1_snd, hx]
  · intro k; rw [take2_apply _ tab0_lt, tab0_fst, refTim_apply X b x hx]
  · intro k; rw [take2_apply _ tab1_lt, tab1_snd, refTim_apply X b x hx]

end Cert.Hand

end
-- ==== Proof.Finite.lean ====
/-
  The precondition read: an array whose magnitudes are all below infinity holds real numbers.
-/
module

public import proofs.«01_k».proof.Pre_finite
public import Idealize.ShloMosaic.Lib.Pointwise

@[expose] public section

noncomputable section

namespace Cert.Hand

open Cert.Pre_finite Idealize.ShloMosaic

/-- The precondition's one side condition. -/
theorem pre_facts : Cert.Pre_finite.Facts := ⟨by decide⟩

/-- The bits of the single-precision infinity are the greatest extended real. -/
theorem bits_inf : (Ideal.ofBits .f32 0x7F800000#32 : EReal) = (⊤ : EReal) := by
  simp [Ideal.ofBits, Ideal.ieee]

/-- An extended real of magnitude below infinity is a real number. -/
theorem real_of_abs_lt (v : EReal) (h : max v (-v) < ⊤) : ∃ r : ℝ, v = (r : EReal) := by
  induction v with
  | bot => simp at h
  | top => simp at h
  | coe r => exact ⟨r, rfl⟩

/-- Where the precondition holds, every element is a real number. -/
theorem real_of_finite [Cert.Pre_finite.Facts] (X : FVec Ideal S16384x100x16 .f32) (h : fn (F := Ideal) X = fun _ => 1#1) (i : S16384x100x16.Idx) :
    ∃ r : ℝ, X i = ((r : ℝ) : EReal) := by
  have hi : fn (F := Ideal) X i = 1#1 := congrFun h i
  refine real_of_abs_lt (X i) ?_
  have e : fn (F := Ideal) X i = Ideal.cmp .olt (max (X i) (-(X i))) (Ideal.ofBits .f32 0x7F800000#32 : EReal) := rfl
  rw [e, bits_inf] at hi
  by_contra hn
  simp [Ideal.cmp, hn] at hi

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Hand

attribute [local instance] Cert.Kernel.Gen.facts Cert.KernelIdeal.Gen.facts Cert.ReferenceIdeal.Gen.facts Cert.Hand.pre_facts

/-- The reference runs, leaves its argument unchanged, and every semaphore counter ends at zero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result is `rowSum` of its argument, where that holds real numbers. -/
theorem ref_rowSum (X : FVec Ideal Cert.KernelIdeal.S16384x100x16 .f32) (hX : ∀ i, ∃ r : ℝ, X i = ((r : ℝ) : EReal)) :
    refTerm tab0 tab1 X = rowSum X := by
  funext i
  obtain ⟨b, rfl⟩ : ∃ b : Fin 16384, i = ix1 b := ⟨i 0, eq_ix1 i⟩
  exact refTerm_apply X b (fun a e => (X (ix3 b a e)).toReal) fun a e => by
    obtain ⟨v, hv⟩ := hX (ix3 b a e)
    rw [hv, EReal.toReal_coe]

/-- At real arguments the kernel and the reference leave the same result, each leaving its argument unchanged. -/
theorem algebraic : Cert.algebraic_KernelIdeal_ReferenceIdeal_pre_finite := by
  intro m g m' g' hpre hm
  have hreal := fun c : Dev Cert.KernelIdeal.nD => real_of_finite _ (hpre c)
  refine ⟨fun c => rowSum (m ((c.tc : Thread Cert.KernelIdeal.nD Cert.KernelIdeal.τ).loc Cert.KernelIdeal.main_arg0)), ?_, ?_⟩
  · exact (θ_run Cert.KernelIdeal.defs _ _).mono (fun r h c => ⟨(h c).1.trans (final m c (hreal c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    exact (res_eq m' c).trans ((congrArg (refTerm tab0 tab1) (hm c)).trans (ref_rowSum _ (hreal c)))

/-- Every claim of the certificate. -/
theorem claim : Cert.Claim :=
  ⟨Cert.Kernel.Gen.facts, Cert.KernelIdeal.Gen.facts, Cert.ReferenceIdeal.Gen.facts, Cert.Hand.pre_facts,
    fun m ρ _ => Cert.Kernel.Gen.frame m ρ,
    fun m ρ _ => Cert.KernelIdeal.Gen.frame m ρ,
    fun m ρ _ => Cert.KernelIdeal.Gen.frame m ρ,
    fun m ρ _ => ref_frame m ρ,
    fun m ρ _ => ref_frame m ρ,
    trivial, algebraic⟩

end Cert.Proof

end
